-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x256x5050 : Shape := ⟨3, ![3, 256, 5050]⟩
abbrev S3x256 : Shape := ⟨2, ![3, 256]⟩
abbrev S3x256x100x128 : Shape := ⟨4, ![3, 256, 100, 128]⟩
abbrev S3x256x100 : Shape := ⟨3, ![3, 256, 100]⟩
abbrev S3x256x128 : Shape := ⟨3, ![3, 256, 128]⟩
abbrev S1x768 : Shape := ⟨2, ![1, 768]⟩
abbrev S1x32x5050 : Shape := ⟨3, ![1, 32, 5050]⟩
abbrev S1x32x100x128 : Shape := ⟨4, ![1, 32, 100, 128]⟩
abbrev S1x32x100 : Shape := ⟨3, ![1, 32, 100]⟩
abbrev S1x32x128 : Shape := ⟨3, ![1, 32, 128]⟩
abbrev S4x288x128 : Shape := ⟨3, ![4, 288, 128]⟩
abbrev S8x128 : Shape := ⟨2, ![8, 128]⟩
abbrev S32x128 : Shape := ⟨2, ![32, 128]⟩
abbrev S1x288x128 : Shape := ⟨3, ![1, 288, 128]⟩
abbrev S288x128 : Shape := ⟨2, ![288, 128]⟩
abbrev S1x32x58 : Shape := ⟨3, ![1, 32, 58]⟩
abbrev S32x58 : Shape := ⟨2, ![32, 58]⟩
abbrev S32x70 : Shape := ⟨2, ![32, 70]⟩
abbrev S32x100 : Shape := ⟨2, ![32, 100]⟩
abbrev S32x28 : Shape := ⟨2, ![32, 28]⟩
abbrev S96x128 : Shape := ⟨2, ![96, 128]⟩
abbrev S128x128 : Shape := ⟨2, ![128, 128]⟩
abbrev S112x128 : Shape := ⟨2, ![112, 128]⟩
abbrev S100x1 : Shape := ⟨2, ![100, 1]⟩
abbrev S1x1x100x128 : Shape := ⟨4, ![1, 1, 100, 128]⟩
abbrev S100x128 : Shape := ⟨2, ![100, 128]⟩
abbrev S28x128 : Shape := ⟨2, ![28, 128]⟩
abbrev S1x1 : Shape := ⟨2, ![1, 1]⟩
abbrev S1x128 : Shape := ⟨2, ![1, 128]⟩

abbrev nBuf : Space → Nat
  | .hbm => 7
  | .vmem => 11
  | .smem => 1
  | _ => 0

abbrev bufTy : (tb : Table) → Fin (tcTables nBuf tb) → BufTy
  | .hbm, ⟨0, _⟩ => ⟨S3x256x5050, .i8⟩
  | .hbm, ⟨1, _⟩ => ⟨S3x256, .f32⟩
  | .hbm, ⟨2, _⟩ => ⟨S3x256x100x128, .fp8e4m3⟩
  | .hbm, ⟨3, _⟩ => ⟨S3x256x100, .f32⟩
  | .hbm, ⟨4, _⟩ => ⟨S3x256x128, .bf16⟩
  | .hbm, ⟨5, _⟩ => ⟨S1x768, .f32⟩
  | .hbm, ⟨6, _⟩ => ⟨S3x256x100x128, .bf16⟩
  | .local _ .vmem, ⟨0, _⟩ => ⟨S1x32x5050, .i8⟩
  | .local _ .vmem, ⟨1, _⟩ => ⟨S1x32x5050, .i8⟩
  | .local _ .vmem, ⟨2, _⟩ => ⟨S1x32x100x128, .fp8e4m3⟩
  | .local _ .vmem, ⟨3, _⟩ => ⟨S1x32x100x128, .fp8e4m3⟩
  | .local _ .vmem, ⟨4, _⟩ => ⟨S1x32x100, .f32⟩
  | .local _ .vmem, ⟨5, _⟩ => ⟨S1x32x100, .f32⟩
  | .local _ .vmem, ⟨6, _⟩ => ⟨S1x32x128, .bf16⟩
  | .local _ .vmem, ⟨7, _⟩ => ⟨S1x32x128, .bf16⟩
  | .local _ .vmem, ⟨8, _⟩ => ⟨S1x32x100x128, .bf16⟩
  | .local _ .vmem, ⟨9, _⟩ => ⟨S1x32x100x128, .bf16⟩
  | .local _ .vmem, ⟨10, _⟩ => ⟨S4x288x128, .i32⟩
  | .local _ .smem, ⟨0, _⟩ => ⟨S1x768, .f32⟩
  | _, _ => ⟨S3x256x5050, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![3, 8], ![false, false]⟩

def k0_off1 (i : grid0.Coords) (c0_i32_1416 : BitVec 32) : Fin 2 → Nat :=
  let c0_1417 : Index := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c32_i32_1415 : BitVec 32 := 32#32
  let v2612 : BitVec 32 := Scalar.muli v1 c32_i32_1415
  let v2613 : BitVec 32 := Scalar.addi v2612 c0_i32_1416
  let v2614 : Index := Scalar.indexCast v2613
  ![0, v2614.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S1x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x32x5050 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x100x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x100x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S3x256x5050 : Shape := ⟨3, ![3, 256, 5050]⟩
abbrev S3x256 : Shape := ⟨2, ![3, 256]⟩
abbrev S3x256x100x128 : Shape := ⟨4, ![3, 256, 100, 128]⟩
abbrev S3x256x100 : Shape := ⟨3, ![3, 256, 100]⟩
abbrev S3x256x128 : Shape := ⟨3, ![3, 256, 128]⟩
abbrev S100 : Shape := ⟨1, ![100]⟩
abbrev S100x1 : Shape := ⟨2, ![100, 1]⟩
abbrev S1x100 : Shape := ⟨2, ![1, 100]⟩
abbrev S100x100 : Shape := ⟨2, ![100, 100]⟩
abbrev S_ : Shape := ⟨0, ![]⟩
abbrev S100x100x1 : Shape := ⟨3, ![100, 100, 1]⟩
abbrev S3x256x100x100 : Shape := ⟨4, ![3, 256, 100, 100]⟩
abbrev S3x256x100x1 : Shape := ⟨4, ![3, 256, 100, 1]⟩
abbrev S3x256x1x1 : Shape := ⟨4, ![3, 256, 1, 1]⟩
abbrev S3x256x1x128 : Shape := ⟨4, ![3, 256, 1, 128]⟩

abbrev nBuf : Space → Nat
  | .hbm => 26
  | .vmem => 6
  | .smem => 0
  | _ => 0

abbrev bufTy : (tb : Table) → Fin (tcTables nBuf tb) → BufTy
  | .hbm, ⟨0, _⟩ => ⟨S3x256x5050, .i8⟩
  | .hbm, ⟨1, _⟩ => ⟨S3x256, .f32⟩
  | .hbm, ⟨2, _⟩ => ⟨S3x256x100x128, .fp8e4m3⟩
  | .hbm, ⟨3, _⟩ => ⟨S3x256x100, .f32⟩
  | .hbm, ⟨4, _⟩ => ⟨S3x256x128, .bf16⟩
  | .hbm, ⟨5, _⟩ => ⟨S100, .i32⟩
  | .hbm, ⟨6, _⟩ => ⟨S100x1, .i32⟩
  | .hbm, ⟨7, _⟩ => ⟨S100, .i32⟩
  | .hbm, ⟨8, _⟩ => ⟨S1x100, .i32⟩
  | .hbm, ⟨9, _⟩ => ⟨S100x100, .i32⟩
  | .hbm, ⟨10, _⟩ => ⟨S100x100, .i32⟩
  | .hbm, ⟨11, _⟩ => ⟨S100x100, .i32⟩
  | .hbm, ⟨12, _⟩ => ⟨S100x100, .i32⟩
  | .hbm, ⟨13, _⟩ => ⟨S100x100, .i32⟩
  | .hbm, ⟨14, _⟩ => ⟨S100x100, .i32⟩
  | .hbm, ⟨15, _⟩ => ⟨S_, .i32⟩
  | .hbm, ⟨16, _⟩ => ⟨S100x100, .i32⟩
  | .hbm, ⟨17, _⟩ => ⟨S100x100, .i32⟩
  | .hbm, ⟨18, _⟩ => ⟨S100x100, .i32⟩
  | .hbm, ⟨19, _⟩ => ⟨S_, .i32⟩
  | .hbm, ⟨20, _⟩ => ⟨S100x100, .i32⟩
  | .hbm, ⟨21, _⟩ => ⟨S100x100, .i32⟩
  | .hbm, ⟨22, _⟩ => ⟨S100x100, .i32⟩
  | .hbm, ⟨23, _⟩ => ⟨S100x100x1, .i32⟩
  | .hbm, ⟨24, _⟩ => ⟨S3x256x100x100, .i8⟩
  | .hbm, ⟨25, _⟩ => ⟨S3x256x100x128, .bf16⟩
  | .local _ .vmem, ⟨0, _⟩ => ⟨S3x256x100x100, .i8⟩
  | .local _ .vmem, ⟨1, _⟩ => ⟨S3x256, .f32⟩
  | .local _ .vmem, ⟨2, _⟩ => ⟨S3x256x100x128, .fp8e4m3⟩
  | .local _ .vmem, ⟨3, _⟩ => ⟨S3x256x100, .f32⟩
  | .local _ .vmem, ⟨4, _⟩ => ⟨S3x256x128, .bf16⟩
  | .local _ .vmem, ⟨5, _⟩ => ⟨S3x256x100x128, .bf16⟩
  | _, _ => ⟨S3x256x5050, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x256x100x100 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x256x100x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x256x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x256x100x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Grad.lean ====
/-
  THE GRADIENT AS ONE FUNCTION OF THE ARGUMENT ARRAYS, over the extended reals: both programs' results are shown equal to it.
-/
module

public import Idealize.ShloMosaic.Lib.Pointwise

@[expose] public section

noncomputable section

namespace Cert.Grad

open Idealize.ShloMosaic

/-- Where row `i` of the packed lower triangle begins. -/
def tri (i : Nat) : Nat := i * (i + 1) / 2

/-- The last entry of row `i` lies inside the packed triangle. -/
theorem tri_lt : ∀ i : Fin 100, tri i.val + i.val < 5050 := by decide

/-- The position of entry `(i, l)`, larger index first, lies inside the packed triangle. -/
theorem tri_inb (i l : Fin 100) : tri (max i.val l.val) + min i.val l.val < 5050 := by
  have := tri_lt ⟨max i.val l.val, by omega⟩
  simp only at this
  omega

/-- The value of sample `s` of step `p` at entry `(i, j)` of the packed triangle: row `max i j`, column `min i j`. -/
def packed (C : (⟨3, ![3, 256, 5050]⟩ : Shape).Idx → BitVec 8) (p : Fin 3) (s : Fin 256) (i j : Fin 100) : EReal :=
  Ideal.ofBits .fp8e5m2 (C (ix3 p s ⟨tri (max i.val j.val) + min i.val j.val, tri_inb i j⟩))

/-- Entry `(i, j)` of the symmetric matrix: the packed value, twice on the diagonal. -/
def sym (C : (⟨3, ![3, 256, 5050]⟩ : Shape).Idx → BitVec 8) (p : Fin 3) (s : Fin 256) (i j : Fin 100) : EReal :=
  if i.val = j.val then packed C p s i j + packed C p s i j else packed C p s i j

/-- The gradient: the symmetric matrix times the scaled embeddings, times the sample's scale, plus the dense gradient in row 0. -/
def grad (C : (⟨3, ![3, 256, 5050]⟩ : Shape).Idx → BitVec 8) (sc : (⟨2, ![3, 256]⟩ : Shape).Idx → EReal)
    (E : (⟨4, ![3, 256, 100, 128]⟩ : Shape).Idx → EReal) (es : (⟨3, ![3, 256, 100]⟩ : Shape).Idx → EReal)
    (dd : (⟨3, ![3, 256, 128]⟩ : Shape).Idx → EReal) (p : Fin 3) (s : Fin 256) (r : Fin 100) (d : Fin 128) : EReal :=
  if r.val = 0 then
    (∑ j : Fin 100, sym C p s r j * (E (ix4 p s j d) * es (ix3 p s j))) * sc (ix2 p s) + dd (ix3 p s d)
  else (∑ j : Fin 100, sym C p s r j * (E (ix4 p s j d) * es (ix3 p s j))) * sc (ix2 p s)

end Cert.Grad

end
-- ==== Proof.Words.lean ====
/-
  WHAT THE SCRATCH BUFFER HOLDS, as one function of the codes.

  The body packs the byte codes of its 32 samples into 32-bit words (four samples to a word), cuts row `i` of the packed
  triangle out of the two 128-lane tiles it lies in, transposes the bytes of four rows at a time, and stores the results
  one row of every group at a time. Each of the 128 stores is written out in the program at its own numbers. Here the
  same computation is stated ONCE, at a variable row (`rowWord`), quad (`quadWord`) and store (`piece`); that the stores
  the program makes are these is `stores_eq`.
-/
module

public import proofs.«01_k».proof.Proof.Gen.KernelIdeal.Value
public import proofs.«01_k».proof.Proof.Grad
public import Idealize.ShloMosaic.Lib.Pipeline.ValueKit
public import Idealize.ShloMosaic.Lib.Pipeline.StridedRows

@[expose] public section

set_option maxRecDepth 16384

noncomputable section

namespace Cert.KernelIdeal.Words

open Idealize.ShloMosaic Idealize.ShloMosaic.TcCoe Idealize.ShloMosaic.Tactic Idealize.SL.Sem
open Cert.KernelIdeal Cert.KernelIdeal.Gen Cert.Grad

variable {F : FTy → Type} [FloatOps F]

/-- The lane number of each word of a tile. -/
def lane : IVec S8x128 32 := iota .tc S8x128 32 [1] iota_S8x128_d1_w32

section
variable (arg3 : Memref sig .tc .vmem S1x32x5050 .i8) (harg3 : arg3.IsWhole) (x1 : Vec F S1x32x5050 .i8)

/-- Tile `t` as words: columns `128 t … 128 t + 127` of the codes, four samples to a word; the last tile, which the codes
    do not fill, is completed with zeros. -/
def tileWord (t : Nat) : IVec S8x128 32 :=
  if h : 128 * t + 128 ≤ 5050 then
    bitcast S8x128 32 (shapeCast S32x128
      (View.readAt (Elt F) arg3.view (Rect.unit (s := S1x32x5050) ![0, 0, 128 * t] S1x32x128.size (fun a => by
        match a with
        | ⟨0, _⟩ => exact Nat.le_refl 1
        | ⟨1, _⟩ => exact Nat.le_refl 32
        | ⟨2, _⟩ => exact h)).toLoadRect (harg3.unread x1)) shapeCasts_S1x32x128_S32x128) bitcasts_S32x128_w8_S8x128_w32
  else
    bitcast S8x128 32 (concatenate S32x128 1
      [⟨S32x58, shapeCast S32x58 (View.readAt (Elt F) arg3.view
          (Rect.unit (s := S1x32x5050) ![0, 0, 4992] S1x32x58.size inb_S1x32x5050_S1x32x58_0_0_4992).toLoadRect (harg3.unread x1))
          shapeCasts_S1x32x58_S32x58⟩,
        ⟨S32x70, broadcast S32x70 0#8⟩] concatenates_S32x58_S32x70_S32x128_d1) bitcasts_S32x128_w8_S8x128_w32

/-- Row `i` of the triangle as words: the lanes from `tri i % 128` on of the tile it begins in (and, when it runs past that
    tile, the first lanes of the next), rotated to lane 0; zero past lane `i`. -/
def rowWord (i : Nat) : IVec S8x128 32 :=
  select (cmpi .sle lane (broadcast S8x128 (BitVec.ofNat 32 i)))
    (if tri i % 128 = 0 then tileWord arg3 harg3 x1 (tri i / 128)
     else dynamicRotate 1 (BitVec.ofNat 32 (128 - tri i % 128)) none
      (if 128 < tri i % 128 + i + 1 then
        select (cmpi .sge lane (broadcast S8x128 (BitVec.ofNat 32 (tri i % 128)))) (tileWord arg3 harg3 x1 (tri i / 128))
          (tileWord arg3 harg3 x1 (tri i / 128 + 1))
       else tileWord arg3 harg3 x1 (tri i / 128)) rotates_S8x128_d1)
    (broadcast S8x128 0#32)

end

/-- The byte transpose of four words: result `k` has, as its byte `c`, byte `k` of word `c`. -/
def byteT (a b c d : IVec S8x128 32) (k : Nat) : IVec S8x128 32 :=
  if k = 0 then
    ori (andi (ori (andi a (broadcast S8x128 65535#32)) (shli c (broadcast S8x128 16#32))) (broadcast S8x128 16711935#32))
      (shli (andi (ori (andi b (broadcast S8x128 65535#32)) (shli d (broadcast S8x128 16#32))) (broadcast S8x128 16711935#32)) (broadcast S8x128 8#32))
  else if k = 1 then
    ori (andi (shrui (ori (andi a (broadcast S8x128 65535#32)) (shli c (broadcast S8x128 16#32))) (broadcast S8x128 8#32)) (broadcast S8x128 16711935#32))
      (andi (ori (andi b (broadcast S8x128 65535#32)) (shli d (broadcast S8x128 16#32))) (broadcast S8x128 4278255360#32))
  else if k = 2 then
    ori (andi (ori (shrui a (broadcast S8x128 16#32)) (andi c (broadcast S8x128 4294901760#32))) (broadcast S8x128 16711935#32))
      (shli (andi (ori (shrui b (broadcast S8x128 16#32)) (andi d (broadcast S8x128 4294901760#32))) (broadcast S8x128 16711935#32)) (broadcast S8x128 8#32))
  else
    ori (andi (shrui (ori (shrui a (broadcast S8x128 16#32)) (andi c (broadcast S8x128 4294901760#32))) (broadcast S8x128 8#32)) (broadcast S8x128 16711935#32))
      (andi (ori (shrui b (broadcast S8x128 16#32)) (andi d (broadcast S8x128 4294901760#32))) (broadcast S8x128 4278255360#32))

section
variable (arg3 : Memref sig .tc .vmem S1x32x5050 .i8) (harg3 : arg3.IsWhole) (x1 : Vec F S1x32x5050 .i8)

/-- Quad `q`, result `k`: the byte transpose of rows `4q … 4q + 3`; zero once the rows run out. -/
def quadWord (q k : Nat) : IVec S8x128 32 :=
  if q < 25 then
    byteT (rowWord arg3 harg3 x1 (4 * q)) (rowWord arg3 harg3 x1 (4 * q + 1)) (rowWord arg3 harg3 x1 (4 * q + 2))
      (rowWord arg3 harg3 x1 (4 * q + 3)) k
  else broadcast S8x128 0#32

/-- Row `q` of every group of one plane. -/
def planeRect (q : Fin 32) : Rect S288x128 :=
  ⟨(⟨![q.val, 0], S8x128.size, ![36, 1], fun a => by
      match a with
      | ⟨0, _⟩ => exact Or.inr (show q.val + 36 * 7 < 288 by omega)
      | ⟨1, _⟩ => exact Or.inr (show 0 + 1 * 127 < 128 by omega)⟩ : LoadRect S288x128), spos_36_1⟩

/-- The same rectangle with a leading axis of one. -/
def planeRect3 (q : Fin 32) : Rect S1x288x128 :=
  (planeRect q).consLift ![1, 288, 128] rfl (fun i => by fin_cases i <;> rfl)

/-- Row `q` of every group of plane `k`, as the program lists the rectangle it stores through a squeezed slice. -/
def storeRect (k : Fin 4) (q : Fin 32) : Rect S4x288x128 :=
  (Rect.unit (s := S4x288x128) ![k.val, 0, 0] S1x288x128.size (fun a => by
      match a with
      | ⟨0, _⟩ => exact (show k.val + 1 ≤ 4 by omega)
      | ⟨1, _⟩ => exact Nat.le_refl 288
      | ⟨2, _⟩ => exact Nat.le_refl 128)).within (planeRect3 q) (fun _ => rfl)

/-- Store `n` (quad `n / 4`, plane `n % 4`): its rectangle and what it stores. -/
def piece (n : Fin 128) : View.Piece (Elt F) S4x288x128 .i32 :=
  ⟨storeRect ⟨n.val % 4, by omega⟩ ⟨n.val / 4, by omega⟩,
    Rect.payAlong (r := planeRect ⟨n.val / 4, by omega⟩) (R := planeRect3 ⟨n.val / 4, by omega⟩)
      (Rect.numel_consLift (planeRect ⟨n.val / 4, by omega⟩) ![1, 288, 128] rfl (fun i => by fin_cases i <;> rfl))
      (shapeCast S8x128 (quadWord arg3 harg3 x1 (n.val / 4) (n.val % 4)) shapeCasts_S8x128_S8x128 : IVec S8x128 32)⟩

/-- The first `n` stores, the newest first. -/
def pieces : (n : Nat) → n ≤ 128 → List (View.Piece (Elt F) S4x288x128 .i32)
  | 0, _ => []
  | n + 1, h => piece arg3 harg3 x1 ⟨n, h⟩ :: pieces n (Nat.le_of_succ_le h)

/-- The stores the program makes are these 128. -/
theorem stores_eq (c : Dev nD) : kernelRun0_A.sl.HS0_128 c arg3 harg3 x1 = pieces arg3 harg3 x1 128 (Nat.le_refl 128) := by
  sl_kernel_rfl

end

end Cert.KernelIdeal.Words

end
-- ==== Proof.Rows.lean ====
/-
  THE WORDS, BIT BY BIT. A tile's word at group `g`, lane `l` holds, as its byte `s % 4`, the code of sample `s` (with
  `s / 4 = g`) in that lane's column (`tileWord_bit`); a row's word holds the code at column `tri i + l` when `l ≤ i` and
  zero past it (`rowWord_bit`); the byte transpose exchanges the number of a byte with the number of its word
  (`byteT_bit`); so what plane `k` holds at row `q` is known at every bit (`quadWord_bit`).
-/
module

public import proofs.«01_k».proof.Proof.Words
public import Idealize.ShloMosaic.Lib.Pointwise
public import Idealize.ShloMosaic.Lib.BitcastFour
public import Idealize.ShloMosaic.Lib.WordCmp

@[expose] public section

set_option maxRecDepth 16384

noncomputable section

namespace Cert.KernelIdeal.Words

open Idealize.ShloMosaic Idealize.ShloMosaic.TcCoe Idealize.ShloMosaic.Tactic Idealize.SL.Sem
open Cert.KernelIdeal Cert.KernelIdeal.Gen Cert.Grad

variable {F : FTy → Type} [FloatOps F]

/-- A choice by `lane ≤ i`, at an index. -/
theorem select_sle (i : Nat) (hi : i < 2 ^ 31) (x y : IVec S8x128 32) (g : Fin 8) (l : Fin 128) :
    select (cmpi .sle lane (broadcast S8x128 (BitVec.ofNat 32 i))) x y (ix2 g l) = if l.val ≤ i then x (ix2 g l) else y (ix2 g l) := by
  have h : IntOp.cmpi .sle (BitVec.ofNat 32 l.val) (BitVec.ofNat 32 i) = BitVec.ofBool (decide (l.val ≤ i)) :=
    WordCmp.cmpi_sle_ofNat (by have := l.isLt; omega) hi
  pointwise [lane, h]

/-- A choice by `lane ≥ i`, at an index. -/
theorem select_sge (i : Nat) (hi : i < 2 ^ 31) (x y : IVec S8x128 32) (g : Fin 8) (l : Fin 128) :
    select (cmpi .sge lane (broadcast S8x128 (BitVec.ofNat 32 i))) x y (ix2 g l) = if i ≤ l.val then x (ix2 g l) else y (ix2 g l) := by
  have h : IntOp.cmpi .sge (BitVec.ofNat 32 l.val) (BitVec.ofNat 32 i) = BitVec.ofBool (decide (i ≤ l.val)) :=
    WordCmp.cmpi_sge_ofNat (by have := l.isLt; omega) hi
  pointwise [lane, h]

/-- Rotating the lanes up by `128 - r` brings lane `(l + r) % 128` to lane `l`. -/
theorem rotate_lane (r : Nat) (hr : r < 128) (x : IVec S8x128 32) (g : Fin 8) (l l' : Fin 128) (hl : l'.val = (l.val + r) % 128) :
    dynamicRotate 1 (BitVec.ofNat 32 (128 - r)) none x rotates_S8x128_d1 (ix2 g l) = x (ix2 g l') := by
  have h : (BitVec.ofNat 32 (128 - r)).toNat = 128 - r := by
    rw [BitVec.toNat_ofNat]; exact Nat.mod_eq_of_lt (by omega)
  pointwise
  refine congrArg x ((ix2_inj ..).2 ⟨rfl, Fin.ext ?_⟩)
  simp only [hl]
  omega

section
variable (arg3 : Memref sig .tc .vmem S1x32x5050 .i8) (harg3 : arg3.IsWhole) (x1 : Vec F S1x32x5050 .i8)

/-- A full tile's codes, as loaded. -/
theorem load_tile (t : Nat) (ht : ∀ a, (![0, 0, 128 * t] : Fin 3 → Nat) a + S1x32x128.size a ≤ S1x32x5050.size a) (s : Fin 32)
    (l : Fin 128) (p : Fin 5050) (hp : p.val = 128 * t + l.val) :
    View.readAt (Elt F) arg3.view (Rect.unit (s := S1x32x5050) ![0, 0, 128 * t] S1x32x128.size ht).toLoadRect (harg3.unread x1) (ix3 0 s l)
      = x1 (ix3 0 s p) := by
  rw [View.readAt_eq_ld, harg3.read_unread]
  refine congrArg x1 (funext fun a => Fin.ext ?_)
  match a with
  | ⟨0, _⟩ => rfl
  | ⟨1, _⟩ => exact (show 0 + 1 * s.val = s.val by omega)
  | ⟨2, _⟩ => exact (show 128 * t + 1 * l.val = p.val by omega)

/-- The last tile's codes, as loaded. -/
theorem load_last (s : Fin 32) (l : Fin 58) (p : Fin 5050) (hp : p.val = 4992 + l.val) :
    View.readAt (Elt F) arg3.view (Rect.unit (s := S1x32x5050) ![0, 0, 4992] S1x32x58.size inb_S1x32x5050_S1x32x58_0_0_4992).toLoadRect
        (harg3.unread x1) (ix3 0 s l)
      = x1 (ix3 0 s p) := by
  rw [View.readAt_eq_ld, harg3.read_unread]
  refine congrArg x1 (funext fun a => Fin.ext ?_)
  match a with
  | ⟨0, _⟩ => rfl
  | ⟨1, _⟩ => exact (show 0 + 1 * s.val = s.val by omega)
  | ⟨2, _⟩ => exact (show 4992 + 1 * l.val = p.val by omega)

/-- A tile without its leading axis. -/
theorem cast_tile (v : IVec S1x32x128 8) (s : Fin 32) (l : Fin 128) :
    shapeCast S32x128 v shapeCasts_S1x32x128_S32x128 (ix2 s l) = v (ix3 0 s l) := by
  pointwise

/-- The last tile without its leading axis, completed with zeros, in a lane the codes fill. -/
theorem cast_last (v : IVec S1x32x58 8) (s : Fin 32) (l : Fin 128) (hl : l.val < 58) :
    concatenate S32x128 1 [⟨S32x58, shapeCast S32x58 v shapeCasts_S1x32x58_S32x58⟩, ⟨S32x70, broadcast S32x70 0#8⟩]
      concatenates_S32x58_S32x70_S32x128_d1 (ix2 s l) = v (ix3 0 s ⟨l.val, hl⟩) := by
  pointwise
  rw [dif_pos hl]

/-- A tile's word at group `g`, lane `l`: its byte `s - 4 g` is the code of sample `s` in column `128 t + l`. -/
theorem tileWord_bit (t : Nat) (g : Fin 8) (l : Fin 128) (q : Nat) (hq : q < 32) (s : Fin 32) (hs : s.val = 4 * g.val + q / 8)
    (p : Fin 5050) (hp : p.val = 128 * t + l.val) :
    (tileWord arg3 harg3 x1 t (ix2 g l)).getLsbD q = (show BitVec 8 from x1 (ix3 0 s p)).getLsbD (q % 8) := by
  have hpl := p.isLt
  unfold tileWord
  split
  · next h =>
    refine (bitcast_8_32_getLsbD_ix2 _ _ g l q hq s hs).trans ?_
    exact congrArg (fun b : BitVec 8 => b.getLsbD (q % 8)) ((cast_tile _ s l).trans (load_tile arg3 harg3 x1 t _ s l p hp))
  · next h =>
    have ht : t = 39 := by omega
    subst ht
    have hl : l.val < 58 := by omega
    refine (bitcast_8_32_getLsbD_ix2 _ _ g l q hq s hs).trans ?_
    exact congrArg (fun b : BitVec 8 => b.getLsbD (q % 8)) ((cast_last _ s l hl).trans (load_last arg3 harg3 x1 s ⟨l.val, hl⟩ p hp))

/-- Row `i`'s word at group `g`, lane `l`: its byte `s - 4 g` is the code of sample `s` in column `tri i + l`, and zero past
    lane `i`. -/
theorem rowWord_bit (i : Nat) (hi : i < 100) (g : Fin 8) (l : Fin 128) (q : Nat) (hq : q < 32) (s : Fin 32)
    (hs : s.val = 4 * g.val + q / 8) :
    (rowWord arg3 harg3 x1 i (ix2 g l)).getLsbD q
      = if h : l.val ≤ i then
          (show BitVec 8 from x1 (ix3 0 s ⟨tri i + l.val, by have := tri_lt ⟨i, hi⟩; simp only at this; omega⟩)).getLsbD (q % 8)
        else false := by
  have hT := tri_lt ⟨i, hi⟩
  simp only at hT
  have hl := l.isLt
  unfold rowWord
  rw [select_sle i (by omega)]
  by_cases h : l.val ≤ i
  · rw [if_pos h, dif_pos h]
    split
    · next h0 => exact tileWord_bit arg3 harg3 x1 _ g l q hq s hs _ (by simp only; omega)
    · next h0 =>
      rw [rotate_lane (tri i % 128) (Nat.mod_lt _ (by omega)) _ g l ⟨(l.val + tri i % 128) % 128, Nat.mod_lt _ (by omega)⟩ rfl]
      split
      · next h1 =>
        rw [select_sge (tri i % 128) (by omega)]
        split
        · next h2 => exact tileWord_bit arg3 harg3 x1 _ g _ q hq s hs _ (by simp only at h2 ⊢; omega)
        · next h2 => exact tileWord_bit arg3 harg3 x1 _ g _ q hq s hs _ (by simp only at h2 ⊢; omega)
      · next h1 => exact tileWord_bit arg3 harg3 x1 _ g _ q hq s hs _ (by simp only; omega)
  · rw [if_neg h, dif_neg h]
    show (0#32).getLsbD q = false
    simp

end

/-- The byte transpose: bit `j` of byte `c` of result `k` is bit `j` of byte `k` of word `c`. -/
theorem byteT_bit (a b c d : IVec S8x128 32) (k : Nat) (hk : k < 4) (y : S8x128.Idx) (q : Nat) (hq : q < 32) :
    (byteT a b c d k y).getLsbD q
      = (if q / 8 = 0 then a y else if q / 8 = 1 then b y else if q / 8 = 2 then c y else d y).getLsbD (8 * k + q % 8) := by
  have key : ∀ A B C D : BitVec 32, ∀ k : Fin 4, ∀ q : Fin 32,
      (if k.val = 0 then
          ((A &&& 65535#32 ||| C <<< 16) &&& 16711935#32) ||| (((B &&& 65535#32 ||| D <<< 16) &&& 16711935#32) <<< 8)
        else if k.val = 1 then
          (((A &&& 65535#32 ||| C <<< 16) >>> 8) &&& 16711935#32) ||| ((B &&& 65535#32 ||| D <<< 16) &&& 4278255360#32)
        else if k.val = 2 then
          ((A >>> 16 ||| C &&& 4294901760#32) &&& 16711935#32) ||| (((B >>> 16 ||| D &&& 4294901760#32) &&& 16711935#32) <<< 8)
        else
          (((A >>> 16 ||| C &&& 4294901760#32) >>> 8) &&& 16711935#32) ||| ((B >>> 16 ||| D &&& 4294901760#32) &&& 4278255360#32)).getLsbD q.val
      = (if q.val / 8 = 0 then A else if q.val / 8 = 1 then B else if q.val / 8 = 2 then C else D).getLsbD (8 * k.val + q.val % 8) := by
    intro A B C D k q
    fin_cases k <;> fin_cases q <;> simp [BitVec.getLsbD_ofNat]
  have e := key (a y) (b y) (c y) (d y) ⟨k, hk⟩ ⟨q, hq⟩
  simp only at e
  rw [← e]
  refine congrArg (fun w : BitVec 32 => w.getLsbD q) ?_
  unfold byteT
  split
  · rfl
  split
  · rfl
  split
  · rfl
  · rfl

/-- Entry `(i, l)` of the lower triangle lies inside the packed array. -/
theorem code_inb (i l : Nat) (h : l ≤ i ∧ i < 100) : tri i + l < 5050 := by
  have := tri_lt ⟨i, h.2⟩
  simp only at this
  omega

/-- Entry `(i, l)` of the lower triangle of sample `s`, as its byte code; zero outside the triangle. -/
def code (x1 : Vec F S1x32x5050 .i8) (s : Fin 32) (i l : Nat) : BitVec 8 :=
  if h : l ≤ i ∧ i < 100 then (show BitVec 8 from x1 (ix3 0 s ⟨tri i + l, code_inb i l h⟩)) else 0#8

section
variable (arg3 : Memref sig .tc .vmem S1x32x5050 .i8) (harg3 : arg3.IsWhole) (x1 : Vec F S1x32x5050 .i8)

/-- Plane `k`, row `q` of group `g`, lane `l`: byte `w / 8` of the word is the code of sample `4 g + k` at entry
    `(4 q + w / 8, l)`. -/
theorem quadWord_bit (q k : Nat) (hq : q < 32) (hk : k < 4) (g : Fin 8) (l : Fin 128) (w : Nat) (hw : w < 32) (s : Fin 32)
    (hs : s.val = 4 * g.val + k) :
    (quadWord arg3 harg3 x1 q k (ix2 g l)).getLsbD w = (code x1 s (4 * q + w / 8) l.val).getLsbD (w % 8) := by
  unfold quadWord
  split
  · next h25 =>
    rw [byteT_bit _ _ _ _ k hk _ w hw]
    have hrow : (if w / 8 = 0 then rowWord arg3 harg3 x1 (4 * q) (ix2 g l) else
        if w / 8 = 1 then rowWord arg3 harg3 x1 (4 * q + 1) (ix2 g l) else
        if w / 8 = 2 then rowWord arg3 harg3 x1 (4 * q + 2) (ix2 g l) else rowWord arg3 harg3 x1 (4 * q + 3) (ix2 g l))
        = rowWord arg3 harg3 x1 (4 * q + w / 8) (ix2 g l) := by
      have hc : w / 8 = 0 ∨ w / 8 = 1 ∨ w / 8 = 2 ∨ w / 8 = 3 := by omega
      rcases hc with e | e | e | e <;> simp [e]
    rw [hrow, rowWord_bit arg3 harg3 x1 _ (by omega) g l (8 * k + w % 8) (by omega) s (by omega)]
    have e8 : (8 * k + w % 8) % 8 = w % 8 := by omega
    unfold code
    by_cases hl : l.val ≤ 4 * q + w / 8
    · rw [dif_pos hl, dif_pos ⟨hl, by omega⟩, e8]
    · rw [dif_neg hl, dif_neg (fun h => hl h.1)]
      simp
  · next h25 =>
    unfold code
    rw [dif_neg (fun h => by omega)]
    show (0#32).getLsbD w = _
    simp

end

end Cert.KernelIdeal.Words

end
-- ==== Proof.Blocks.lean ====
/-
  WHAT ONE GRID POINT STORES, as one function of the sample.

  For each of its 32 samples the body reads the sample's words out of the scratch buffer, widens their bytes, adds the
  transpose, multiplies by the scaled embeddings, scales, adds the dense gradient to row 0 and stores the result. The
  program writes this out 32 times; here it is stated once, at a variable sample (`sampleOut`); that the program's 32
  stores are these is `outs_eq`.
-/
module

public import proofs.«01_k».proof.Proof.Words

@[expose] public section

set_option maxRecDepth 16384

noncomputable section

namespace Cert.KernelIdeal.Blocks

open Idealize.ShloMosaic Idealize.ShloMosaic.TcCoe Idealize.ShloMosaic.Tactic Idealize.SL.Sem
open Cert.KernelIdeal Cert.KernelIdeal.Gen

variable {F : FTy → Type} [FloatOps F]

/-- The samples' words, widened: the matrix whose lower triangle (with the diagonal) holds the sample's codes. -/
def lowMat (words : Vec F S1x32x128 .i32) : FVec F S128x128 .bf16 :=
  extf .bf16 (bitcastToFloat .fp8e5m2 (bitcast S128x128 8 (shapeCast S32x128 words shapeCasts_S1x32x128_S32x128 : IVec S32x128 32)
    bitcasts_S32x128_w32_S128x128_w8)) bitsLt_fp8e5m2_bf16

/-- That matrix plus its transpose. -/
def symMat (words : Vec F S1x32x128 .i32) : FVec F S128x128 .bf16 :=
  addf (lowMat words) (transpose S128x128 [1, 0] (lowMat words) transposes_S128x128_p1_0_S128x128)

/-- Column `b` of the transposed scales is a slice of the table. -/
theorem slices_col (b : Fin 32) : S128x128.Slices ![0, b.val] S100x1 :=
  ⟨rfl, fun a => by
    match a with
    | ⟨0, _⟩ => exact (show 0 + 100 ≤ 128 by omega)
    | ⟨1, _⟩ => exact (show b.val + 1 ≤ 128 by omega)⟩

/-- Row `b` of the dense gradients is a slice of the block. -/
theorem slices_row (b : Fin 32) : S32x128.Slices ![b.val, 0] S1x128 :=
  ⟨rfl, fun a => by
    match a with
    | ⟨0, _⟩ => exact (show b.val + 1 ≤ 32 by omega)
    | ⟨1, _⟩ => exact (show 0 + 128 ≤ 128 by omega)⟩

/-- Sample `b`'s embeddings times their scales, completed with zero rows. -/
def embMat (b : Fin 32) (es : FVec F S128x128 .f32) (e : Vec F S1x1x100x128 .fp8e4m3) : FVec F S128x128 .bf16 :=
  concatenate S128x128 0
    [⟨S100x128, mulf (extf .bf16 (shapeCast S100x128 e shapeCasts_S1x1x100x128_S100x128 : FVec F S100x128 .fp8e4m3) bitsLt_fp8e4m3_bf16)
      (broadcastTo S100x128 (truncf .bf16 (extractStridedSlice S100x1 ![0, b.val] es (slices_col b)) bitsLt_bf16_f32) broadcasts_S100x1_S100x128)⟩,
     ⟨S28x128, broadcast S28x128 (Scalar.ofBits .bf16 0x0000#16)⟩] concatenates_S100x128_S28x128_S128x128_d0

/-- The scaled product. -/
def prodMat (words : Vec F S1x32x128 .i32) (emb : FVec F S128x128 .bf16) (sc : F .f32) : FVec F S112x128 .f32 :=
  mulf (matmul dot_S112x128_S128x128_S112x128_1_0_0_1_n_n none
      (extractStridedSlice S112x128 ![0, 0] (symMat words) slices_S128x128_o0_0_S112x128) emb (constant S112x128 .f32 0x00000000#32))
    (broadcast S112x128 sc)

/-- What is stored for sample `b`. -/
def sampleOut (b : Fin 32) (es : FVec F S128x128 .f32) (dd : FVec F S32x128 .f32) (words : Vec F S1x32x128 .i32)
    (e : Vec F S1x1x100x128 .fp8e4m3) (sc : F .f32) : FVec F S1x1x100x128 .bf16 :=
  shapeCast S1x1x100x128
    (truncf .bf16 (extractStridedSlice S100x128 ![0, 0]
      (select (k0_pay496) (addf (prodMat words (embMat b es e) sc)
          (broadcastTo S112x128 (extractStridedSlice S1x128 ![b.val, 0] dd (slices_row b)) broadcasts_S1x128_S112x128))
        (prodMat words (embMat b es e) sc)) slices_S112x128_o0_0_S100x128) bitsLt_bf16_f32) shapeCasts_S100x128_S1x1x100x128

/-- The box of sample `b`'s words in the scratch buffer: plane `b % 4`, the first 32 rows of group `b / 4`. -/
def wordRect (b : Fin 32) : Rect S4x288x128 :=
  Rect.unit (s := S4x288x128) ![b.val % 4, b.val / 4 * 36, 0] S1x32x128.size (fun a => by
    match a with
    | ⟨0, _⟩ => exact (show b.val % 4 + 1 ≤ 4 by omega)
    | ⟨1, _⟩ => exact (show b.val / 4 * 36 + 32 ≤ 288 by omega)
    | ⟨2, _⟩ => exact Nat.le_refl 128)

/-- The box of sample `b` in a block of embeddings, and in the block of results. -/
def sampleRect (b : Fin 32) : Rect S1x32x100x128 :=
  Rect.unit (s := S1x32x100x128) ![0, b.val, 0, 0] S1x1x100x128.size (fun a => by
    match a with
    | ⟨0, _⟩ => exact Nat.le_refl 1
    | ⟨1, _⟩ => exact (show b.val + 1 ≤ 32 by omega)
    | ⟨2, _⟩ => exact Nat.le_refl 100
    | ⟨3, _⟩ => exact Nat.le_refl 128)

section
variable (c : Dev nD) (i : grid0.Coords) (arg2 : Memref sig .tc .smem S1x768 .f32) (harg2 : arg2.IsWhole)
  (arg3 : Memref sig .tc .vmem S1x32x5050 .i8) (harg3 : arg3.IsWhole) (arg4 : Memref sig .tc .vmem S1x32x100x128 .fp8e4m3)
  (harg4 : arg4.IsWhole) (arg5 : Memref sig .tc .vmem S1x32x100 .f32) (harg5 : arg5.IsWhole)
  (arg6 : Memref sig .tc .vmem S1x32x128 .bf16) (harg6 : arg6.IsWhole) (arg7 : Memref sig .tc .vmem S1x32x100x128 .bf16)
  (harg7 : arg7.IsWhole) (arg8 : Memref sig .tc .vmem S4x288x128 .i32) (harg8 : arg8.IsWhole)
  (x0 : Vec F S1x768 .f32) (x1 : Vec F S1x32x5050 .i8) (x2 : Vec F S1x32x100x128 .fp8e4m3) (x3 : Vec F S1x32x100 .f32)
  (x4 : Vec F S1x32x128 .bf16)

/-- Sample `b`'s words, as loaded from the scratch buffer. -/
def sampleWords (b : Fin 32) : Vec F S1x32x128 .i32 :=
  arg8.view.readCov (kernelRun0_A.sl.HS0_128 c arg3 harg3 x1) (wordRect b).toLoadRect

/-- Sample `b`'s scale, as loaded from the table of scales. -/
def sampleScale (b : Fin 32) : F .f32 :=
  View.readAt (Elt F) arg2.view (Rect.unit (s := S1x768) (k0_off1 i (BitVec.ofNat 32 b.val)) S1x1.size (k0_off1_inb i b)).toLoadRect
    (harg2.unread x0) (Shape.Idx.first (Nat.lt_of_lt_of_eq Nat.one_pos (Eq.symm numel1_S1x1)))

/-- The store of sample `b`. -/
def outPiece (b : Fin 32) : View.Piece (Elt F) S1x32x100x128 .bf16 :=
  ⟨sampleRect b, sampleOut b (kernelRun0_A.sl.r_4 c arg5 harg5 x3) (kernelRun0_A.sl.r_5 c arg6 harg6 x4)
    (sampleWords c arg3 harg3 arg8 x1 b)
    (View.readAt (Elt F) arg4.view (sampleRect b).toLoadRect (harg4.unread x2)) (sampleScale i arg2 harg2 x0 b)⟩

/-- The first `n` stores, the newest first. -/
def outPieces : (n : Nat) → n ≤ 32 → List (View.Piece (Elt F) S1x32x100x128 .bf16)
  | 0, _ => []
  | n + 1, h => outPiece c i arg2 harg2 arg3 harg3 arg4 harg4 arg5 harg5 arg6 harg6 arg8 x0 x1 x2 x3 x4 ⟨n, h⟩
      :: outPieces n (Nat.le_of_succ_le h)

/-- The stores the program makes to its result are these 32. -/
theorem outs_eq :
    (kernelRun0_A c i arg2 harg2 arg3 harg3 arg4 harg4 arg5 harg5 arg6 harg6 arg7 harg7 arg8 harg8 x0 x1 x2 x3 x4).1
      = outPieces c i arg2 harg2 arg3 harg3 arg4 harg4 arg5 harg5 arg6 harg6 arg8 x0 x1 x2 x3 x4 32 (Nat.le_refl 32) := by
  sl_kernel_rfl

end

end Cert.KernelIdeal.Blocks

end
-- ==== Proof.Scratch.lean ====
/-
  WHAT A SAMPLE READS OUT OF THE SCRATCH BUFFER. The 128 stores are rows of one function of plane, row, group and lane
  (`piece_row`), so the read of sample `b`'s plane and group holds that function there (`sampleWords_eq`); its bytes are the
  sample's codes, entry by entry (`sampleBytes`).
-/
module

public import proofs.«01_k».proof.Proof.Rows
public import proofs.«01_k».proof.Proof.Blocks

@[expose] public section

set_option maxRecDepth 16384

noncomputable section

namespace Cert.KernelIdeal.Words

open Idealize.ShloMosaic Idealize.ShloMosaic.TcCoe Idealize.ShloMosaic.Tactic Idealize.SL.Sem
open Idealize.ShloMosaic.StridedRows
open Cert.KernelIdeal Cert.KernelIdeal.Gen Cert.KernelIdeal.Blocks

variable {F : FTy → Type} [FloatOps F]

/-- The 32 rows of a group fit in its pitch of 36. -/
theorem rows_le : 32 ≤ 36 := by decide

/-- Two pieces with one payload and rectangles of one size are one when their offsets and strides are. -/
theorem piece_eq {Val : EltTy → Type} {s : Shape} {e : EltTy} (z o o' t t' : Fin s.rank → Nat) (ho : o = o') (ht : t = t')
    (i : ∀ a, z a = 0 ∨ o a + t a * (z a - 1) < s.size a) (i' : ∀ a, z a = 0 ∨ o' a + t' a * (z a - 1) < s.size a)
    (p : ∀ a, 0 < t a) (p' : ∀ a, 0 < t' a) (w : (⟨s.rank, z⟩ : Shape).Idx → Val e) :
    (⟨(⟨(⟨o, z, t, i⟩ : LoadRect s), p⟩ : Rect s), w⟩ : View.Piece Val s e) = ⟨(⟨(⟨o', z, t', i'⟩ : LoadRect s), p'⟩ : Rect s), w⟩ := by
  subst ho ht
  rfl

/-- The program's rectangle of a store, with any payload, is row `q` of every group of plane `k`. -/
theorem storeRect_eq (k : Fin 4) (q : Fin 32) (w : (Row 8 128).Idx → Elt F .i32) :
    (⟨storeRect k q, w⟩ : View.Piece (Elt F) S4x288x128 .i32)
      = (⟨rowRect rows_le k q, w⟩ : View.Piece (Elt F) (Plane 4 8 36 128) .i32) := by
  have ho : (storeRect k q).off = ![k.val, q.val, 0] := by
    funext a
    fin_cases a
    · rfl
    · exact Nat.zero_add _
    · rfl
  have ht : (storeRect k q).stride = ![1, 36, 1] := by
    funext a
    fin_cases a <;> rfl
  exact piece_eq (Val := Elt F) (s := S4x288x128) (e := .i32) (storeRect k q).size (storeRect k q).off ![k.val, q.val, 0]
    (storeRect k q).stride ![1, 36, 1] ho ht (storeRect k q).inb (rowRect (N := 8) (L := 128) rows_le k q).inb
    (storeRect k q).stride_pos (rowRect (N := 8) (L := 128) rows_le k q).stride_pos w

section
variable (arg3 : Memref sig .tc .vmem S1x32x5050 .i8) (harg3 : arg3.IsWhole) (x1 : Vec F S1x32x5050 .i8)

/-- What plane `k` holds at row `q` of group `g`, lane `l`. -/
def planeWord (k : Fin 4) (q : Fin 32) (g : Fin 8) (l : Fin 128) : Elt F .i32 :=
  (quadWord arg3 harg3 x1 q.val k.val (ix2 g l) : BitVec 32)

/-- A store's payload at an index: the word it stores, without the leading axis. -/
theorem payload_apply (q : Fin 32) (v : IVec S8x128 32)
    (h : (planeRect3 q).shape.numel = (planeRect q).shape.numel) (x : (Row 8 128).Idx) :
    Rect.payAlong (r := planeRect q) (R := planeRect3 q) h (shapeCast S8x128 v shapeCasts_S8x128_S8x128 : IVec S8x128 32) x
      = v (ix2 (x 1) (x 2)) := by
  refine (Rect.payAlong_consLift (planeRect q) ![1, 288, 128] rfl (fun i => by fin_cases i <;> rfl)
    (shapeCast S8x128 v shapeCasts_S8x128_S8x128 : IVec S8x128 32) h x (ix2 (x 1) (x 2)) fun i => ?_).trans ?_
  · fin_cases i <;> rfl
  · rw [shapeCast_self]

/-- Store `n` is row `n / 4` of plane `n % 4` of `planeWord`. -/
theorem piece_row (n : Fin 128) (k : Fin 4) (q : Fin 32) (hk : n.val % 4 = k.val) (hq : n.val / 4 = q.val) :
    ∃ w : (Row 8 128).Idx → Elt F .i32,
      piece arg3 harg3 x1 n = (⟨rowRect rows_le k q, w⟩ : View.Piece (Elt F) (Plane 4 8 36 128) .i32)
        ∧ ∀ x, w x = planeWord arg3 harg3 x1 k q (x 1) (x 2) := by
  obtain ⟨k, hk4⟩ := k
  obtain ⟨q, hq32⟩ := q
  simp only at hk hq
  subst hk hq
  exact ⟨_, storeRect_eq _ _ _, fun x => payload_apply _ _ _ x⟩

/-- Every one of the first `N` stores is some store `n < N`. -/
theorem mem_pieces : ∀ (N : Nat) (hN : N ≤ 128) (p : View.Piece (Elt F) S4x288x128 .i32),
    p ∈ pieces arg3 harg3 x1 N hN ↔ ∃ n : Fin 128, n.val < N ∧ p = piece arg3 harg3 x1 n
  | 0, _, p => by
    show p ∈ [] ↔ _
    simp
  | N + 1, hN, p => by
    show p ∈ _ :: _ ↔ _
    rw [List.mem_cons, mem_pieces N _ p]
    constructor
    · rintro (h | ⟨n, hn, h⟩)
      · exact ⟨⟨N, hN⟩, Nat.lt_succ_self N, h⟩
      · exact ⟨n, Nat.lt_succ_of_lt hn, h⟩
    · rintro ⟨n, hn, h⟩
      rcases Nat.lt_succ_iff_lt_or_eq.1 hn with h' | h'
      · exact Or.inr ⟨n, h', h⟩
      · left
        rw [h]
        congr 1
        exact Fin.ext h'

variable (arg8 : Memref sig .tc .vmem S4x288x128 .i32)

/-- Sample `b`'s words, as loaded: plane `b % 4`, group `b / 4`. -/
theorem sampleWords_eq (c : Dev nD) (b : Fin 32) :
    sampleWords c arg3 harg3 arg8 x1 b
      = fun x => planeWord arg3 harg3 x1 ⟨b.val % 4, by omega⟩ (x 1) ⟨b.val / 4, by omega⟩ (x 2) := by
  unfold sampleWords
  rw [stores_eq]
  refine readCov_tile (C := 4) (N := 8) (DP := 36) (D := 32) (L := 128) arg8.view rows_le (planeWord arg3 harg3 x1) _ ?_
    ⟨b.val % 4, by omega⟩ ?_ ⟨b.val / 4, by omega⟩
  · intro p hp
    obtain ⟨n, -, rfl⟩ := (mem_pieces arg3 harg3 x1 _ _ p).1 hp
    obtain ⟨w, h, hw⟩ := piece_row arg3 harg3 x1 n ⟨n.val % 4, by omega⟩ ⟨n.val / 4, by omega⟩ rfl rfl
    exact ⟨_, _, w, h, hw⟩
  · intro r
    obtain ⟨w, h, hw⟩ := piece_row arg3 harg3 x1 ⟨4 * r.val + b.val % 4, by omega⟩ ⟨b.val % 4, by omega⟩ r
      (by simp only; omega) (by simp only; omega)
    exact ⟨w, (mem_pieces arg3 harg3 x1 _ _ _).2 ⟨⟨4 * r.val + b.val % 4, by omega⟩, by simp only; omega, h.symm⟩⟩

/-- The bytes of sample `b`'s words: its codes. -/
theorem sampleBytes (c : Dev nD) (b : Fin 32) (p l : Fin 128) :
    bitcast S128x128 8 (shapeCast S32x128 (sampleWords c arg3 harg3 arg8 x1 b) shapeCasts_S1x32x128_S32x128 : IVec S32x128 32)
      bitcasts_S32x128_w32_S128x128_w8 (ix2 p l) = code x1 b p.val l.val := by
  apply BitVec.eq_of_getLsbD_eq
  intro q hq
  rw [bitcast_getLsbD _ _ _ q hq (by decide)]
  rw [sampleWords_eq]
  have hcast : ∀ v : IVec S1x32x128 32, ∀ j : S32x128.Idx, shapeCast S32x128 v shapeCasts_S1x32x128_S32x128 j = v (ix3 0 (j 0) (j 1)) := by
    intro v j
    pointwise
  rw [hcast]
  generalize hJ : bitcasts_S32x128_w32_S128x128_w8.srcIdx (ix2 p l) _ _ = J
  have hrow : S128x128.row (ix2 p l) = p.val := rfl
  have h0 : (J 0).val = p.val / 4 := by
    rw [← hJ]
    refine (bitcasts_S32x128_w32_S128x128_w8.srcIdx_row _ _ _ ⟨0, Nat.zero_lt_two⟩ rfl).trans ?_
    rw [hrow]; omega
  have h1 : J 1 = l := by
    rw [← hJ]
    exact Fin.ext (bitcasts_S32x128_w32_S128x128_w8.srcIdx_other _ _ _ ⟨1, Nat.one_lt_two⟩ (by show ¬ 1 + 2 = 2; omega))
  have hJ0 : (J 0).val < 32 := (J 0).isLt
  have hbit := quadWord_bit arg3 harg3 x1 (J 0).val (b.val % 4) hJ0 (by omega) ⟨b.val / 4, by omega⟩ (J 1)
    ((p.val * 8 + q) % 32) (by omega) b (by simp only; omega)
  rw [hrow]
  refine hbit.trans ?_
  have e1 : 4 * (J 0).val + (p.val * 8 + q) % 32 / 8 = p.val := by omega
  have e2 : (p.val * 8 + q) % 32 % 8 = q := by omega
  rw [e1, e2, h1]

end

end Cert.KernelIdeal.Words

end
-- ==== Proof.SampleValue.lean ====
/-
  WHAT ONE SAMPLE'S RESULT IS over the extended reals, entry by entry: row `r`, lane `d` of the product of the sample's
  symmetric matrix with its scaled embeddings, times the sample's scale, plus the dense gradient in row 0.
-/
module

public import proofs.«01_k».proof.Proof.Scratch

@[expose] public section

set_option maxRecDepth 16384

noncomputable section

namespace Cert.KernelIdeal.Blocks

open Idealize.ShloMosaic Idealize.ShloMosaic.TcCoe Idealize.ShloMosaic.Tactic Idealize.SL.Sem
open Cert.KernelIdeal Cert.KernelIdeal.Gen Cert.KernelIdeal.Words

/-- An entry of the matrix plus its transpose. -/
theorem symMat_apply (words : Vec Ideal S1x32x128 .i32) (p l : Fin 128) :
    symMat (F := Ideal) words (ix2 p l) = (lowMat (F := Ideal) words (ix2 p l) + lowMat (F := Ideal) words (ix2 l p) : EReal) := by
  pointwise [symMat]

/-- An embedding entry times its scale; zero in the rows added below row 99. -/
theorem embMat_apply (b : Fin 32) (es : FVec Ideal S128x128 .f32) (e : Vec Ideal S1x1x100x128 .fp8e4m3) (j d : Fin 128) :
    embMat (F := Ideal) b es e (ix2 j d)
      = if h : j.val < 100 then ((show EReal from e (ix4 0 0 ⟨j.val, h⟩ d)) * es (ix2 j ⟨b.val, by omega⟩) : EReal) else 0 := by
  pointwise [embMat]

/-- An entry of the product, times the sample's scale. -/
theorem prodMat_apply (words : Vec Ideal S1x32x128 .i32) (emb : FVec Ideal S128x128 .bf16) (sc : Ideal .f32) (r : Fin 112) (d : Fin 128) :
    prodMat (F := Ideal) words emb sc (ix2 r d)
      = ((∑ k : Fin 128, symMat (F := Ideal) words (ix2 ⟨r.val, by omega⟩ k) * emb (ix2 k d)) * sc : EReal) := by
  pointwise [prodMat]

/-- An entry of what is stored: the scaled product, with the dense gradient added in row 0. -/
theorem sampleOut_apply (b : Fin 32) (es : FVec Ideal S128x128 .f32) (dd : FVec Ideal S32x128 .f32) (words : Vec Ideal S1x32x128 .i32)
    (e : Vec Ideal S1x1x100x128 .fp8e4m3) (sc : Ideal .f32) (r : Fin 100) (d : Fin 128) :
    sampleOut (F := Ideal) b es dd words e sc (ix4 0 0 r d)
      = if r.val = 0 then (prodMat (F := Ideal) words (embMat b es e) sc (ix2 ⟨r.val, by omega⟩ d) + dd (ix2 b d) : EReal)
        else prodMat (F := Ideal) words (embMat b es e) sc (ix2 ⟨r.val, by omega⟩ d) := by
  have h : IntOp.cmpi .eq (BitVec.ofNat 32 r.val) 0#32 = BitVec.ofBool (decide (r.val = 0)) :=
    WordCmp.cmpi_eq_ofNat (by have := r.isLt; omega) (by decide)
  pointwise [sampleOut, k0_pay496, h]

/-- The scales' table as the samples read it: sample `b`'s scale of embedding `j`. -/
theorem scales_apply (c : Dev nD) (arg5 : Memref sig .tc .vmem S1x32x100 .f32) (harg5 : arg5.IsWhole) (x3 : Vec Ideal S1x32x100 .f32)
    (j : Fin 100) (b : Fin 32) :
    kernelRun0_A.sl.r_4 (F := Ideal) c arg5 harg5 x3 (ix2 ⟨j.val, by omega⟩ ⟨b.val, by omega⟩) = x3 (ix3 0 b j) := by
  unfold kernelRun0_A.sl.r_4 kernelRun0_A.sl.r_2
  rw [View.readAt_eq_ld, harg5.read_unread]
  pointwise [k0_pay494, k0_pay493, k0_pay492]

/-- The dense gradient's row of sample `b`, as loaded. -/
theorem dense_apply (c : Dev nD) (arg6 : Memref sig .tc .vmem S1x32x128 .bf16) (harg6 : arg6.IsWhole) (x4 : Vec Ideal S1x32x128 .bf16)
    (b : Fin 32) (d : Fin 128) :
    kernelRun0_A.sl.r_5 (F := Ideal) c arg6 harg6 x4 (ix2 b d) = x4 (ix3 0 b d) := by
  unfold kernelRun0_A.sl.r_5
  rw [View.readAt_eq_ld, harg6.read_unread]
  pointwise [k0_pay495]

/-- Sample `b`'s embeddings, as loaded. -/
theorem emb_apply (arg4 : Memref sig .tc .vmem S1x32x100x128 .fp8e4m3) (harg4 : arg4.IsWhole) (x2 : Vec Ideal S1x32x100x128 .fp8e4m3)
    (b : Fin 32) (j : Fin 100) (d : Fin 128) :
    View.readAt (Elt Ideal) arg4.view (sampleRect b).toLoadRect (harg4.unread x2) (ix4 0 0 j d) = x2 (ix4 0 b j d) := by
  rw [View.readAt_eq_ld, harg4.read_unread]
  refine congrArg x2 (funext fun a => Fin.ext ?_)
  match a with
  | ⟨0, _⟩ => rfl
  | ⟨1, _⟩ => rfl
  | ⟨2, _⟩ => exact (show 0 + 1 * j.val = j.val by omega)
  | ⟨3, _⟩ => exact (show 0 + 1 * d.val = d.val by omega)

/-- Sample `b`'s scale, as loaded. -/
theorem scale_apply (i : grid0.Coords) (arg2 : Memref sig .tc .smem S1x768 .f32) (harg2 : arg2.IsWhole) (x0 : Vec Ideal S1x768 .f32)
    (b : Fin 32) (n : Fin 768) (hn : n.val = 256 * (i 0).val + 32 * (i 1).val + b.val) :
    sampleScale (F := Ideal) i arg2 harg2 x0 b = x0 (ix2 0 n) := by
  unfold sampleScale
  rw [View.readAt_eq_ld, harg2.read_unread]
  refine congrArg x0 (funext fun a => Fin.ext ?_)
  have h := k0_off1_eq i b
  match a with
  | ⟨0, _⟩ => exact (show k0_off1 i (BitVec.ofNat 32 b.val) 0 + 1 * 0 = 0 by rw [h]; rfl)
  | ⟨1, _⟩ => exact (show k0_off1 i (BitVec.ofNat 32 b.val) 1 + 1 * 0 = n.val by rw [h, hn]; rfl)

section
variable (c : Dev nD) (arg3 : Memref sig .tc .vmem S1x32x5050 .i8) (harg3 : arg3.IsWhole) (arg8 : Memref sig .tc .vmem S4x288x128 .i32)
  (x1 : Vec Ideal S1x32x5050 .i8)

/-- The widened words of sample `b`: its codes' values. -/
theorem lowMat_apply (b : Fin 32) (p l : Fin 128) :
    lowMat (F := Ideal) (sampleWords c arg3 harg3 arg8 x1 b) (ix2 p l) = (Ideal.ofBits .fp8e5m2 (code x1 b p.val l.val) : EReal) := by
  have h := sampleBytes arg3 harg3 x1 arg8 c b p l
  pointwise [lowMat]
  exact congrArg (Ideal.ofBits .fp8e5m2) h

/-- Entry `(r, j)` of sample `b`'s symmetric matrix: the code of the larger index's row at the smaller index, twice on the
    diagonal. -/
def symVal (x1 : Vec Ideal S1x32x5050 .i8) (b : Fin 32) (r j : Nat) : EReal :=
  if r = j then Ideal.ofBits .fp8e5m2 (code x1 b (max r j) (min r j)) + Ideal.ofBits .fp8e5m2 (code x1 b (max r j) (min r j))
  else Ideal.ofBits .fp8e5m2 (code x1 b (max r j) (min r j))

/-- Outside the lower triangle the code is zero, and so is its value. -/
theorem code_zero (b : Fin 32) (p l : Nat) (h : p < l) : (Ideal.ofBits .fp8e5m2 (code x1 b p l) : EReal) = 0 := by
  unfold code
  rw [dif_neg (fun h' => by omega)]
  exact Ideal.ofBits_zero .fp8e5m2

/-- The matrix plus its transpose, built from sample `b`'s words, is the symmetric matrix with its diagonal doubled. -/
theorem symMat_sample (b : Fin 32) (p l : Fin 128) :
    symMat (F := Ideal) (sampleWords c arg3 harg3 arg8 x1 b) (ix2 p l) = symVal x1 b p.val l.val := by
  rw [symMat_apply, lowMat_apply, lowMat_apply]
  unfold symVal
  rcases Nat.lt_trichotomy p.val l.val with h | h | h
  · rw [if_neg (by omega), max_eq_right h.le, min_eq_left h.le, code_zero x1 b _ _ h, zero_add]
  · rw [if_pos h, h, max_self, min_self]
  · rw [if_neg (by omega), max_eq_left h.le, min_eq_right h.le, code_zero x1 b _ _ h, add_zero]

end

/-- Row `r`, lane `d` of sample `b`'s result: the sample's symmetric matrix times its scaled embeddings, times its scale,
    plus the dense gradient in row 0. -/
def sampleVal (x1 : Vec Ideal S1x32x5050 .i8) (x2 : Vec Ideal S1x32x100x128 .fp8e4m3) (x3 : Vec Ideal S1x32x100 .f32)
    (x4 : Vec Ideal S1x32x128 .bf16) (sc : EReal) (b : Fin 32) (r : Fin 100) (d : Fin 128) : EReal :=
  if r.val = 0 then
    (∑ j : Fin 100, symVal x1 b r.val j.val * ((show EReal from x2 (ix4 0 b j d)) * (show EReal from x3 (ix3 0 b j)))) * sc
      + (show EReal from x4 (ix3 0 b d))
  else (∑ j : Fin 100, symVal x1 b r.val j.val * ((show EReal from x2 (ix4 0 b j d)) * (show EReal from x3 (ix3 0 b j)))) * sc

section
variable (c : Dev nD) (i : grid0.Coords) (arg2 : Memref sig .tc .smem S1x768 .f32) (harg2 : arg2.IsWhole)
  (arg3 : Memref sig .tc .vmem S1x32x5050 .i8) (harg3 : arg3.IsWhole) (arg4 : Memref sig .tc .vmem S1x32x100x128 .fp8e4m3)
  (harg4 : arg4.IsWhole) (arg5 : Memref sig .tc .vmem S1x32x100 .f32) (harg5 : arg5.IsWhole)
  (arg6 : Memref sig .tc .vmem S1x32x128 .bf16) (harg6 : arg6.IsWhole) (arg7 : Memref sig .tc .vmem S1x32x100x128 .bf16)
  (harg7 : arg7.IsWhole) (arg8 : Memref sig .tc .vmem S4x288x128 .i32) (harg8 : arg8.IsWhole)
  (x0 : Vec Ideal S1x768 .f32) (x1 : Vec Ideal S1x32x5050 .i8) (x2 : Vec Ideal S1x32x100x128 .fp8e4m3) (x3 : Vec Ideal S1x32x100 .f32)
  (x4 : Vec Ideal S1x32x128 .bf16)

/-- The scaled product's entry: a sum over the 100 embeddings, the zero rows that complete them adding nothing. -/
theorem prodMat_sample (es : FVec Ideal S128x128 .f32) (e : Vec Ideal S1x1x100x128 .fp8e4m3) (b : Fin 32) (sc : EReal) (r : Fin 100)
    (d : Fin 128) (he : ∀ j : Fin 100, e (ix4 0 0 j d) = x2 (ix4 0 b j d))
    (hs : ∀ j : Fin 100, es (ix2 ⟨j.val, by omega⟩ ⟨b.val, by omega⟩) = x3 (ix3 0 b j)) :
    prodMat (F := Ideal) (sampleWords c arg3 harg3 arg8 x1 b) (embMat b es e) sc (ix2 ⟨r.val, by omega⟩ d)
      = ((∑ j : Fin 100, symVal x1 b r.val j.val * ((show EReal from x2 (ix4 0 b j d)) * (show EReal from x3 (ix3 0 b j)))) * sc : EReal) := by
  rw [prodMat_apply]
  refine congrArg (fun z : EReal => z * sc) ?_
  rw [Fin.sum_univ_two_halves 100 28 rfl]
  have h2 : ∀ k : Fin 28, (symMat (F := Ideal) (sampleWords c arg3 harg3 arg8 x1 b) (ix2 ⟨r.val, by omega⟩ ⟨100 + k.val, by omega⟩)
      * embMat (F := Ideal) b es e (ix2 ⟨100 + k.val, by omega⟩ d) : EReal) = 0 := by
    intro k
    rw [embMat_apply, dif_neg (by simp only; omega), mul_zero]
  rw [Finset.sum_congr rfl fun k _ => h2 k, Finset.sum_const_zero, add_zero]
  refine Finset.sum_congr rfl fun j _ => ?_
  rw [symMat_sample, embMat_apply, dif_pos j.isLt]
  exact congrArg₂ (fun u v : EReal => symVal x1 b r.val j.val * (u * v)) (he j) (hs j)

/-- What is stored for sample `b`, entry by entry. -/
theorem outPiece_apply (b : Fin 32) (n : Fin 768) (hn : n.val = 256 * (i 0).val + 32 * (i 1).val + b.val) (r : Fin 100) (d : Fin 128) :
    (outPiece c i arg2 harg2 arg3 harg3 arg4 harg4 arg5 harg5 arg6 harg6 arg8 x0 x1 x2 x3 x4 b).2 (ix4 0 0 r d)
      = sampleVal x1 x2 x3 x4 (x0 (ix2 0 n)) b r d := by
  refine (sampleOut_apply b _ _ _ _ _ r d).trans ?_
  have hp := prodMat_sample c arg3 harg3 arg8 x1 x2 x3 (kernelRun0_A.sl.r_4 c arg5 harg5 x3)
    (View.readAt (Elt Ideal) arg4.view (sampleRect b).toLoadRect (harg4.unread x2)) b (x0 (ix2 0 n)) r d
    (fun j => emb_apply arg4 harg4 x2 b j d) (fun j => scales_apply c arg5 harg5 x3 j b)
  rw [scale_apply i arg2 harg2 x0 b n hn]
  unfold sampleVal
  refine if_congr Iff.rfl ?_ hp
  exact congrArg₂ (fun u v : EReal => u + v) hp (dense_apply c arg6 harg6 x4 b d)

/-- Membership in the list of the first `N` stores. -/
theorem mem_outPieces : ∀ (N : Nat) (hN : N ≤ 32) (p : View.Piece (Elt Ideal) S1x32x100x128 .bf16),
    p ∈ outPieces c i arg2 harg2 arg3 harg3 arg4 harg4 arg5 harg5 arg6 harg6 arg8 x0 x1 x2 x3 x4 N hN
      → ∃ b : Fin 32, p = outPiece c i arg2 harg2 arg3 harg3 arg4 harg4 arg5 harg5 arg6 harg6 arg8 x0 x1 x2 x3 x4 b
  | 0, _, p => fun h => absurd (show p ∈ [] from h) (List.not_mem_nil)
  | N + 1, hN, p => fun h => by
    rcases List.mem_cons.1 (show p ∈ _ :: _ from h) with h | h
    · exact ⟨_, h⟩
    · exact mem_outPieces N _ p h

/-- The sample's place in the table of all 768 scales. -/
theorem table_inb (b : Fin 32) : 256 * (i 0).val + 32 * (i 1).val + b.val < 768 := by
  have h0 : (i 0).val < 3 := (i 0).isLt
  have h1 : (i 1).val < 8 := (i 1).isLt
  omega

/-- WHAT ONE GRID POINT LEAVES IN ITS BLOCK: for every sample of the block, `sampleVal`. -/
theorem block_apply (b : Fin 32) (r : Fin 100) (d : Fin 128) :
    out0_A_5 (F := Ideal) c i arg2 harg2 arg3 harg3 arg4 harg4 arg5 harg5 arg6 harg6 arg7 harg7 arg8 harg8 x0 x1 x2 x3 x4 (ix4 0 b r d)
      = sampleVal x1 x2 x3 x4 (x0 (ix2 0 ⟨256 * (i 0).val + 32 * (i 1).val + b.val, table_inb i b⟩)) b r d := by
  unfold out0_A_5
  rw [View.read_writes_junk_eq_canon]
  refine (View.canon_apply_of_pieces (fun y : S1x32x100x128.Idx =>
    (sampleVal x1 x2 x3 x4 (x0 (ix2 0 ⟨256 * (i 0).val + 32 * (i 1).val + (y 1).val, table_inb i (y 1)⟩)) (y 1) (y 2) (y 3) : EReal))
    _ ?_ (ix4 0 b r d) (cover0_A_5 c i arg2 harg2 arg3 harg3 arg4 harg4 arg5 harg5 arg6 harg6 arg7 harg7 arg8 harg8 x0 x1 x2 x3 x4 _)).trans rfl
  rw [outs_eq]
  intro p hp x
  obtain ⟨b', rfl⟩ := mem_outPieces c i arg2 harg2 arg3 harg3 arg4 harg4 arg5 harg5 arg6 harg6 arg8 x0 x1 x2 x3 x4 _ _ p hp
  have hx : x = (ix4 0 0 (x 2) (x 3) : S1x1x100x128.Idx) := by
    funext a
    match a with
    | ⟨0, _⟩ => exact Fin.ext (by have h : (x 0).val < 1 := (x 0).isLt; show (x 0).val = 0; omega)
    | ⟨1, _⟩ => exact Fin.ext (by have h : (x 1).val < 1 := (x 1).isLt; show (x 1).val = 0; omega)
    | ⟨2, _⟩ => rfl
    | ⟨3, _⟩ => rfl
  have hy : (sampleRect b').emb x = (ix4 0 b' (x 2) (x 3) : S1x32x100x128.Idx) := by
    funext a
    match a with
    | ⟨0, _⟩ => exact Fin.ext (by have h : (x 0).val < 1 := (x 0).isLt; show 0 + 1 * (x 0).val = 0; omega)
    | ⟨1, _⟩ => exact Fin.ext (by have h : (x 1).val < 1 := (x 1).isLt; show b'.val + 1 * (x 1).val = b'.val; omega)
    | ⟨2, _⟩ => exact Fin.ext (by show 0 + 1 * (x 2).val = (x 2).val; omega)
    | ⟨3, _⟩ => exact Fin.ext (by show 0 + 1 * (x 3).val = (x 3).val; omega)
  refine ((congrArg _ hx).trans (outPiece_apply c i arg2 harg2 arg3 harg3 arg4 harg4 arg5 harg5 arg6 harg6 arg8 x0 x1 x2 x3 x4 b'
    ⟨256 * (i 0).val + 32 * (i 1).val + b'.val, table_inb i b'⟩ rfl (x 2) (x 3))).trans ?_
  exact (congrArg (fun y : S1x32x100x128.Idx =>
    (sampleVal x1 x2 x3 x4 (x0 (ix2 0 ⟨256 * (i 0).val + 32 * (i 1).val + (y 1).val, table_inb i (y 1)⟩)) (y 1) (y 2) (y 3) : EReal)) hy).symm

end

end Cert.KernelIdeal.Blocks

end
-- ==== Proof.KernelValue.lean ====
/-
  THE KERNEL'S RESULT ARRAY is the gradient of its argument arrays: what each grid point writes, set in its place.
-/
module

public import proofs.«01_k».proof.Proof.SampleValue
public import proofs.«01_k».proof.Proof.Grad

@[expose] public section

set_option maxRecDepth 16384

noncomputable section

namespace Cert.KernelIdeal.Result

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Words Cert.KernelIdeal.Blocks Cert.Grad

variable (m : (ℓ : Loc nD τ sig) → Buf (Elt Ideal) ℓ)

/-- The windows' block indices at every grid point. -/
theorem idx : ∀ t : Fin cfg0.N,
    win0_0.index t = ![0, 0] ∧ win0_1.index t = ![(grid0.coords t 0).val, (grid0.coords t 1).val, 0]
      ∧ win0_2.index t = ![(grid0.coords t 0).val, (grid0.coords t 1).val, 0, 0]
      ∧ win0_3.index t = ![(grid0.coords t 0).val, (grid0.coords t 1).val, 0]
      ∧ win0_4.index t = ![(grid0.coords t 0).val, (grid0.coords t 1).val, 0]
      ∧ win0_5.index t = ![(grid0.coords t 0).val, (grid0.coords t 1).val, 0, 0] :=
  (by decide +kernel : ∀ t : Fin grid0.N, _)

/-- The sample of the argument arrays that sample `b` of point `t`'s block is. -/
def samp (t : Fin cfg0.N) (b : Fin 32) : Fin 256 :=
  ⟨32 * (grid0.coords t 1).val + b.val, by
    have h1 : (grid0.coords t 1).val < 8 := (grid0.coords t 1).isLt
    omega⟩

section
variable (c : Dev nD) (t : Fin cfg0.N) (b : Fin 32)

/-- The point's block of bytes is the argument's, at the point's samples. -/
theorem read_codes (l : Fin 5050) :
    iblk m c 1 t (ix3 0 b l) = m ((c : Thread nD τ).loc main_arg0) (ix3 (grid0.coords t 0) (samp t b) l) := by
  blk_ext [iblk, V, idx t, samp]

/-- The point's block of embeddings is the argument's. -/
theorem read_emb (j : Fin 100) (d : Fin 128) :
    iblk m c 2 t (ix4 0 b j d) = m ((c : Thread nD τ).loc main_arg2) (ix4 (grid0.coords t 0) (samp t b) j d) := by
  blk_ext [iblk, V, idx t, samp]

/-- The point's block of embedding scales is the argument's. -/
theorem read_escale (j : Fin 100) :
    iblk m c 3 t (ix3 0 b j) = m ((c : Thread nD τ).loc main_arg3) (ix3 (grid0.coords t 0) (samp t b) j) := by
  blk_ext [iblk, V, idx t, samp]

/-- The point's block of dense gradients is the argument's. -/
theorem read_dense (d : Fin 128) :
    iblk m c 4 t (ix3 0 b d) = m ((c : Thread nD τ).loc main_arg4) (ix3 (grid0.coords t 0) (samp t b) d) := by
  blk_ext [iblk, V, idx t, samp]

/-- The scale sample `b` reads from the table of all 768 is the argument's scale of that sample. -/
theorem read_scale :
    iblk m c 0 t (ix2 0 ⟨256 * (grid0.coords t 0).val + 32 * (grid0.coords t 1).val + b.val, table_inb (grid0.coords t) b⟩)
      = m ((c : Thread nD τ).loc main_arg1) (ix2 (grid0.coords t 0) (samp t b)) := by
  have h0 : (grid0.coords t 0).val < 3 := (grid0.coords t 0).isLt
  have h1 : (grid0.coords t 1).val < 8 := (grid0.coords t 1).isLt
  blk_simp [iblk, idx t]
  entry_read
  pointwise
  blk_ext [idx t, samp]

/-- Entry `(r, j)` of the block's symmetric matrix is the argument's. -/
theorem sym_block (r j : Fin 100) :
    symVal (iblk m c 1 t) b r.val j.val = sym (m ((c : Thread nD τ).loc main_arg0)) (grid0.coords t 0) (samp t b) r j := by
  have hc : code (F := Ideal) (iblk m c 1 t) b (max r.val j.val) (min r.val j.val)
      = (m ((c : Thread nD τ).loc main_arg0) (ix3 (grid0.coords t 0) (samp t b)
          ⟨tri (max r.val j.val) + min r.val j.val, tri_inb r j⟩) : BitVec 8) := by
    unfold code
    rw [dif_pos ⟨by omega, by omega⟩]
    exact read_codes m c t b _
  unfold symVal sym packed
  rw [hc]

/-- What point `t` leaves for sample `b` of its block is the gradient of the sample. -/
theorem sample_grad (r : Fin 100) (d : Fin 128) :
    sampleVal (iblk m c 1 t) (iblk m c 2 t) (iblk m c 3 t) (iblk m c 4 t)
        (iblk m c 0 t (ix2 0 ⟨256 * (grid0.coords t 0).val + 32 * (grid0.coords t 1).val + b.val, table_inb (grid0.coords t) b⟩)) b r d
      = grad (m ((c : Thread nD τ).loc main_arg0)) (m ((c : Thread nD τ).loc main_arg1)) (m ((c : Thread nD τ).loc main_arg2))
          (m ((c : Thread nD τ).loc main_arg3)) (m ((c : Thread nD τ).loc main_arg4)) (grid0.coords t 0) (samp t b) r d := by
  have hsum : (∑ j : Fin 100, symVal (iblk m c 1 t) b r.val j.val
        * ((show EReal from iblk m c 2 t (ix4 0 b j d)) * (show EReal from iblk m c 3 t (ix3 0 b j))))
      = ∑ j : Fin 100, sym (m ((c : Thread nD τ).loc main_arg0)) (grid0.coords t 0) (samp t b) r j
        * ((show EReal from m ((c : Thread nD τ).loc main_arg2) (ix4 (grid0.coords t 0) (samp t b) j d))
          * (show EReal from m ((c : Thread nD τ).loc main_arg3) (ix3 (grid0.coords t 0) (samp t b) j))) :=
    Finset.sum_congr rfl fun j _ => by rw [sym_block, read_emb, read_escale]
  unfold sampleVal grad
  rw [hsum, read_scale, read_dense]

end

/-- The result array is the gradient, entry by entry. -/
theorem final (c : Dev nD) : (dats m 0 c).arrAt 5 cfg0.N
    = fun y : S3x256x100x128.Idx => grad (m ((c : Thread nD τ).loc main_arg0)) (m ((c : Thread nD τ).loc main_arg1))
        (m ((c : Thread nD τ).loc main_arg2)) (m ((c : Thread nD τ).loc main_arg3)) (m ((c : Thread nD τ).loc main_arg4))
        (y 0) (y 1) (y 2) (y 3) := by
  refine (dats m 0 c).arrAt_eq_of_covers 5 _ (by decide +kernel) fun t _ y => ?_
  blk_simp
  rw [after0_5]
  unfold outsAt0
  have hy : y = (ix4 0 (y 1) (y 2) (y 3) : S1x32x100x128.Idx) := by
    funext a
    match a with
    | ⟨0, _⟩ => exact Fin.ext (by have h : (y 0).val < 1 := (y 0).isLt; show (y 0).val = 0; omega)
    | ⟨1, _⟩ => rfl
    | ⟨2, _⟩ => rfl
    | ⟨3, _⟩ => rfl
  refine (congrArg _ hy).trans ((block_apply c (grid0.coords t) (ms0_0 t) (hs0_0 t) (ms0_1 t) (hs0_1 t) (ms0_2 t) (hs0_2 t) (ms0_3 t)
    (hs0_3 t) (ms0_4 t) (hs0_4 t) (ms0_5 t) (hs0_5 t) scM0_0 (Memref.isWhole_whole _) (iblk m c 0 t) (iblk m c 1 t) (iblk m c 2 t)
    (iblk m c 3 t) (iblk m c 4 t) (y 1) (y 2) (y 3)).trans ((sample_grad m c t (y 1) (y 2) (y 3)).trans ?_))
  have e0 : grid0.coords t 0 = ((win0_5.blk t).view.emb y 0 : Fin 3) := Fin.ext (by
    blk_simp [idx t])
  have e1 : samp t (y 1) = ((win0_5.blk t).view.emb y 1 : Fin 256) := Fin.ext (by
    show 32 * (grid0.coords t 1).val + (y 1).val = _
    blk_simp [idx t]; omega)
  have e2 : y 2 = ((win0_5.blk t).view.emb y 2 : Fin 100) := Fin.ext (by blk_simp [idx t])
  have e3 : y 3 = ((win0_5.blk t).view.emb y 3 : Fin 128) := Fin.ext (by blk_simp [idx t])
  exact congr (congr (congr (congrArg _ e0) e1) e2) e3

end Cert.KernelIdeal.Result

end
-- ==== Proof.Table.lean ====
/-
  THE REFERENCE'S INDEX TABLE AND ITS GATHER: the words the host computes are the positions of the packed triangle, and
  gathering by them takes, at entry `(i, j)`, the byte of row `max i j`, column `min i j`.
-/
module

public import proofs.«01_k».proof.Proof.Gen.ReferenceIdeal.Value
public import proofs.«01_k».proof.Proof.Grad

@[expose] public section

set_option maxRecDepth 16384

noncomputable section

namespace Cert.ReferenceIdeal.Table

open Idealize.ShloMosaic Idealize.ShloMosaic.TcCoe Idealize.ShloMosaic.Tactic Idealize.SL.Sem
open Cert.ReferenceIdeal Cert.ReferenceIdeal.Gen Cert.Grad

/-- The gather read at `(p, s, i, j)`: the operand's byte at the position the table gives for `(i, j)`, kept in range. -/
theorem gather_apply (x : S3x256x5050.Idx → BitVec 8) (ix : IVec S100x100x1 32) (p : Fin 3) (s : Fin 256) (i j : Fin 100) :
    Host.gather gather_S3x256x5050_S100x100x1_S3x256x100x100_01_2_n_n_2_2_32561 x ix (ix4 p s i j)
      = x (ix3 p s ⟨min (ix (ix3 i j 0)).toInt.toNat 5049, by omega⟩) := by
  unfold Host.gather
  congr 1
  funext a
  refine Fin.ext ?_
  show GatherDims.start _ _ ix a + GatherDims.batchCoord _ _ a + GatherDims.offCoord _ _ a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  unfold GatherDims.start GatherDims.offCoord
  rcases ha with rfl | rfl | rfl
  · rw [dif_neg (by decide), dif_pos (by decide), Nat.zero_add]
    rfl
  · rw [dif_neg (by decide), dif_pos (by decide), Nat.zero_add]
    rfl
  · rw [dif_pos (by decide), dif_neg (by decide), Nat.add_zero]
    have h : GatherDims.siIdx gather_S3x256x5050_S100x100x1_S3x256x100x100_01_2_n_n_2_2_32561 (ix4 p s i j)
        ⟨List.idxOf (2 : Fin 3) [2], by decide⟩ = (ix3 i j 0 : S100x100x1.Idx) := by
      funext b; refine Fin.ext ?_
      match b with
      | ⟨0, _⟩ => rfl
      | ⟨1, _⟩ => rfl
      | ⟨2, _⟩ => rfl
    exact congrArg (fun y => min (ix y).toInt.toNat 5049) h

/-- The word of the larger of two indices. -/
theorem max_word (i j : Fin 100) : IntOp.maxsi (BitVec.ofNat 32 i.val) (BitVec.ofNat 32 j.val) = BitVec.ofNat 32 (max i.val j.val) := by
  revert i j; decide +kernel

/-- The word of the smaller of two indices. -/
theorem min_word (i j : Fin 100) : IntOp.minsi (BitVec.ofNat 32 i.val) (BitVec.ofNat 32 j.val) = BitVec.ofNat 32 (min i.val j.val) := by
  revert i j; decide +kernel

/-- The word at which row `i` begins. -/
theorem tri_word (i : Fin 100) :
    IntOp.divsi .host (BitVec.ofNat 32 i.val * (BitVec.ofNat 32 i.val + 1#32)) 2#32 = BitVec.ofNat 32 (tri i.val) := by
  unfold IntOp.divsi
  rw [if_neg (by revert i; decide +kernel)]
  revert i; decide +kernel

/-- The word of entry `(i, j)`'s position in the packed triangle. -/
theorem position_word (i j : Fin 100) :
    IntOp.divsi .host (IntOp.maxsi (BitVec.ofNat 32 i.val) (BitVec.ofNat 32 j.val)
        * (IntOp.maxsi (BitVec.ofNat 32 i.val) (BitVec.ofNat 32 j.val) + 1#32)) 2#32
      + IntOp.minsi (BitVec.ofNat 32 i.val) (BitVec.ofNat 32 j.val) = BitVec.ofNat 32 (tri (max i.val j.val) + min i.val j.val) := by
  have h := tri_word ⟨max i.val j.val, by omega⟩
  rw [max_word, min_word, BitVec.ofNat_add]
  exact congrArg (· + BitVec.ofNat 32 (min i.val j.val)) h

variable (m : (ℓ : Loc nD τ sig) → Buf (Elt Ideal) ℓ)

/-- The gathered array at the region's entry. -/
theorem gathered (c : Dev nD) (p : Fin 3) (s : Fin 256) (i j : Fin 100) :
    V m c main_v16 (ix4 p s i j)
      = m ((c : Thread nD τ).loc main_arg0) (ix3 p s ⟨tri (max i.val j.val) + min i.val j.val, tri_inb i j⟩) := by
  unfold V
  simp only [hostOps0, hostOps0_1, List.flatten_cons, List.flatten_nil, List.append_nil, List.cons_append, List.nil_append]
  entry_read
  simp only [StableHlo.TRef.toBuf, StableHlo.TRef.ofBuf, cast_eq]
  refine (gather_apply _ _ p s i j).trans (congrArg (fun n : Fin 5050 => m ((c : Thread nD τ).loc main_arg0) (ix3 p s n)) (Fin.ext ?_))
  have hw := position_word i j
  have hlt := tri_inb i j
  refine (congrArg (fun w : BitVec 32 => min w.toInt.toNat 5049) (?_ : _ = BitVec.ofNat 32 (tri (max i.val j.val) + min i.val j.val))).trans ?_
  · rw [← hw]
    pointwise
    rfl
  · show min (BitVec.ofNat 32 _).toInt.toNat 5049 = tri (max i.val j.val) + min i.val j.val
    rw [BitVec.toInt_ofNat', Int.bmod_eq_of_le (by omega) (by omega)]
    omega

end Cert.ReferenceIdeal.Table

end
-- ==== Proof.RefValue.lean ====
/-
  THE REFERENCE'S RESULT ARRAY is the gradient of its argument arrays.
-/
module

public import proofs.«01_k».proof.Proof.Table
public import Idealize.ShloMosaic.Lib.Pipeline.ValueKit
public import Idealize.ShloMosaic.Lib.WordCmp

@[expose] public section

set_option maxRecDepth 16384

noncomputable section

namespace Cert.ReferenceIdeal.Result

open Idealize.ShloMosaic Idealize.ShloMosaic.TcCoe Idealize.ShloMosaic.Tactic Idealize.SL.Sem
open Idealize.ShloMosaic.Pipeline (Dat)
open Cert.ReferenceIdeal Cert.ReferenceIdeal.Gen Cert.ReferenceIdeal.Table Cert.Grad

/-- What the region computes at `(p, s, r, d)` of the gathered bytes, the scales, the embeddings and the dense gradient. -/
theorem payload_apply (st : Vec Ideal S3x256x100x100 .i8) (e : Vec Ideal S3x256x100x128 .fp8e4m3) (es : Vec Ideal S3x256x100 .f32)
    (sc : Vec Ideal S3x256 .f32) (dd : Vec Ideal S3x256x128 .bf16) (p : Fin 3) (s : Fin 256) (r : Fin 100) (d : Fin 128) :
    k0_pay1 (F := Ideal) st e es sc dd (ix4 p s r d)
      = (if r.val = 0 then
          (∑ j : Fin 100, (if r.val = j.val then
              (Ideal.ofBits .fp8e5m2 (st (ix4 p s r j)) + Ideal.ofBits .fp8e5m2 (st (ix4 p s r j)) : EReal)
              else Ideal.ofBits .fp8e5m2 (st (ix4 p s r j)))
            * ((show EReal from e (ix4 p s j d)) * (show EReal from es (ix3 p s j)))) * (show EReal from sc (ix2 p s))
          + (show EReal from dd (ix3 p s d))
        else (∑ j : Fin 100, (if r.val = j.val then
              (Ideal.ofBits .fp8e5m2 (st (ix4 p s r j)) + Ideal.ofBits .fp8e5m2 (st (ix4 p s r j)) : EReal)
              else Ideal.ofBits .fp8e5m2 (st (ix4 p s r j)))
            * ((show EReal from e (ix4 p s j d)) * (show EReal from es (ix3 p s j)))) * (show EReal from sc (ix2 p s)) : EReal) := by
  have h0 : IntOp.cmpi .eq (BitVec.ofNat 32 r.val) 0#32 = BitVec.ofBool (decide (r.val = 0)) :=
    WordCmp.cmpi_eq_ofNat (by have := r.isLt; omega) (by decide)
  have hj : ∀ j : Fin 100, IntOp.cmpi .eq (BitVec.ofNat 32 r.val) (BitVec.ofNat 32 j.val) = BitVec.ofBool (decide (r.val = j.val)) :=
    fun j => WordCmp.cmpi_eq_ofNat (by have := r.isLt; omega) (by have := j.isLt; omega)
  pointwise [k0_pay1, h0, hj]

variable (m : (ℓ : Loc nD τ sig) → Buf (Elt Ideal) ℓ)

/-- The windows' block indices at the one grid point. -/
theorem idx : ∀ t : Fin cfg0.N,
    win0_0.index t = ![0, 0, 0, 0] ∧ win0_1.index t = ![0, 0] ∧ win0_2.index t = ![0, 0, 0, 0] ∧ win0_3.index t = ![0, 0, 0]
      ∧ win0_4.index t = ![0, 0, 0] ∧ win0_5.index t = ![0, 0, 0, 0] :=
  (by decide +kernel : ∀ t : Fin grid0.N, _)

section
variable (c : Dev nD) (t : Fin cfg0.N) (p : Fin 3) (s : Fin 256)

/-- The gathered bytes the region reads: entry `(i, j)` is the byte of row `max i j`, column `min i j`. -/
theorem read_bytes (i j : Fin 100) :
    iblk m c 0 t (ix4 p s i j)
      = m ((c : Thread nD τ).loc main_arg0) (ix3 p s ⟨tri (max i.val j.val) + min i.val j.val, tri_inb i j⟩) := by
  rw [← gathered m c p s i j]
  blk_ext [iblk, idx t]

/-- The scales the region reads are the argument. -/
theorem read_scale : iblk m c 1 t (ix2 p s) = m ((c : Thread nD τ).loc main_arg1) (ix2 p s) := by
  rw [← V_main_arg1 m c]
  blk_ext [iblk, idx t]

/-- The embeddings the region reads are the argument. -/
theorem read_emb (j : Fin 100) (d : Fin 128) : iblk m c 2 t (ix4 p s j d) = m ((c : Thread nD τ).loc main_arg2) (ix4 p s j d) := by
  rw [← V_main_arg2 m c]
  blk_ext [iblk, idx t]

/-- The embedding scales the region reads are the argument. -/
theorem read_escale (j : Fin 100) : iblk m c 3 t (ix3 p s j) = m ((c : Thread nD τ).loc main_arg3) (ix3 p s j) := by
  rw [← V_main_arg3 m c]
  blk_ext [iblk, idx t]

/-- The dense gradients the region reads are the argument. -/
theorem read_dense (d : Fin 128) : iblk m c 4 t (ix3 p s d) = m ((c : Thread nD τ).loc main_arg4) (ix3 p s d) := by
  rw [← V_main_arg4 m c]
  blk_ext [iblk, idx t]

/-- The region's value of the arrays at its entry is the gradient of the arguments. -/
theorem payload_grad (r : Fin 100) (d : Fin 128) :
    k0_pay1 (F := Ideal) (iblk m c 0 t) (iblk m c 2 t) (iblk m c 3 t) (iblk m c 1 t) (iblk m c 4 t) (ix4 p s r d)
      = grad (m ((c : Thread nD τ).loc main_arg0)) (m ((c : Thread nD τ).loc main_arg1)) (m ((c : Thread nD τ).loc main_arg2))
          (m ((c : Thread nD τ).loc main_arg3)) (m ((c : Thread nD τ).loc main_arg4)) p s r d := by
  rw [payload_apply]
  have hterm : ∀ j : Fin 100, ((if r.val = j.val then
              (Ideal.ofBits .fp8e5m2 (iblk m c 0 t (ix4 p s r j)) + Ideal.ofBits .fp8e5m2 (iblk m c 0 t (ix4 p s r j)) : EReal)
              else Ideal.ofBits .fp8e5m2 (iblk m c 0 t (ix4 p s r j)))
            * ((show EReal from iblk m c 2 t (ix4 p s j d)) * (show EReal from iblk m c 3 t (ix3 p s j))) : EReal)
      = sym (m ((c : Thread nD τ).loc main_arg0)) p s r j
        * ((show EReal from m ((c : Thread nD τ).loc main_arg2) (ix4 p s j d)) * (show EReal from m ((c : Thread nD τ).loc main_arg3) (ix3 p s j))) :=
    fun j => by
      rw [read_emb, read_escale, read_bytes]
      rfl
  unfold grad
  rw [Finset.sum_congr rfl fun j _ => hterm j, read_scale, read_dense]

end

/-- The result array is the gradient, entry by entry. -/
theorem final (c : Dev nD) : (dats m 0 c).arrAt 5 cfg0.N
    = fun y : S3x256x100x128.Idx => grad (m ((c : Thread nD τ).loc main_arg0)) (m ((c : Thread nD τ).loc main_arg1))
        (m ((c : Thread nD τ).loc main_arg2)) (m ((c : Thread nD τ).loc main_arg3)) (m ((c : Thread nD τ).loc main_arg4))
        (y 0) (y 1) (y 2) (y 3) := by
  refine (dats m 0 c).arrAt_eq_of_covers 5 _ (by decide +kernel) fun t _ y => ?_
  blk_simp
  rw [after0_5]
  frame_out
  have hy : y = (ix4 (y 0) (y 1) (y 2) (y 3) : S3x256x100x128.Idx) := by
    funext a
    match a with
    | ⟨0, _⟩ => rfl
    | ⟨1, _⟩ => rfl
    | ⟨2, _⟩ => rfl
    | ⟨3, _⟩ => rfl
  refine (congrArg _ hy).trans ((payload_grad m c t (y 0) (y 1) (y 2) (y 3)).trans ?_)
  have e0 : y 0 = ((win0_5.blk t).view.emb y 0 : Fin 3) := Fin.ext (by blk_simp [idx t])
  have e1 : y 1 = ((win0_5.blk t).view.emb y 1 : Fin 256) := Fin.ext (by blk_simp [idx t])
  have e2 : y 2 = ((win0_5.blk t).view.emb y 2 : Fin 100) := Fin.ext (by blk_simp [idx t])
  have e3 : y 3 = ((win0_5.blk t).view.emb y 3 : Fin 128) := Fin.ext (by blk_simp [idx t])
  exact congr (congr (congr (congrArg _ e0) e1) e2) e3

end Cert.ReferenceIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

set_option backward.isDefEq.respectTransparency.types false in
/-- The kernel's result array and the reference's are the same function of the argument arrays. -/
theorem algebraic : Cert.algebraic_KernelIdeal_ReferenceIdeal := by
  pair_intro
  · run_from Cert.KernelIdeal.Gen.run_main m g
  · run_from Cert.ReferenceIdeal.Value.run_blocks m' g'
    obtain ⟨h0, h1, h2, h3, h4⟩ := hagree c
    refine (Cert.ReferenceIdeal.Result.final m' c).trans (Eq.trans ?_ (Cert.KernelIdeal.Result.final m c).symm)
    rw [h0, h1, h2, h3, h4]

/-- Every claim of the statement. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => Cert.ReferenceIdeal.Gen.frame m g, trivial, algebraic⟩

end Cert.Proof

end
